-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_Reference (m : (ℓ : Loc Cert.Reference.nD Cert.Reference.τ Cert.Reference.sig) → Buf (Elt Bits) ℓ) : Prop :=
  True

def Pre_Reference_in_range [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Reference_pre_in_range [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v3)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReference : Cert.Reference.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_Reference (hReference := hReference)
    ∧ quiescent_Reference_pre_in_range (hReference := hReference) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S4x8192x1024 : Shape := ⟨3, ![4, 8192, 1024]⟩
abbrev S_ : Shape := ⟨0, ![]⟩
abbrev S8x1024 : Shape := ⟨2, ![8, 1024]⟩

class Facts : Prop where

variable [Facts]

def fn {F : FTy → Type} [FloatOps F] (main_arg0 : FVec F S4x8192x1024 .f32) (main_arg1 : IVec S_ 32) (main_arg2 : FVec F S8x1024 .f32) : IVec S_ 1 :=
  let main_c : IVec S_ 32 := constantI S_ 32 0#32
  let main_v0 : IVec S_ 1 := cmpi .sge main_arg1 main_c
  let main_c_0 : IVec S_ 32 := constantI S_ 32 8#32
  let main_v1 : IVec S_ 1 := cmpi .slt main_arg1 main_c_0
  let main_v2 : IVec S_ 1 := andi main_v0 main_v1
  main_v2
-- ==== Kernel.lean ====
abbrev S4x8192x1024 : Shape := ⟨3, ![4, 8192, 1024]⟩
abbrev S_ : Shape := ⟨0, ![]⟩
abbrev S8x1024 : Shape := ⟨2, ![8, 1024]⟩
abbrev S32768x1024 : Shape := ⟨2, ![32768, 1024]⟩
abbrev S1 : Shape := ⟨1, ![1]⟩
abbrev S2048x1024 : Shape := ⟨2, ![2048, 1024]⟩
abbrev S1x1024 : Shape := ⟨2, ![1, 1024]⟩

abbrev nBuf : Space → Nat
  | .hbm => 6
  | .vmem => 5
  | .smem => 1
  | _ => 0

abbrev bufTy : (tb : Table) → Fin (tcTables nBuf tb) → BufTy
  | .hbm, ⟨0, _⟩ => ⟨S4x8192x1024, .f32⟩
  | .hbm, ⟨1, _⟩ => ⟨S_, .i32⟩
  | .hbm, ⟨2, _⟩ => ⟨S8x1024, .f32⟩
  | .hbm, ⟨3, _⟩ => ⟨S32768x1024, .f32⟩
  | .hbm, ⟨4, _⟩ => ⟨S32768x1024, .f32⟩
  | .hbm, ⟨5, _⟩ => ⟨S4x8192x1024, .f32⟩
  | .local _ .vmem, ⟨0, _⟩ => ⟨S8x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S2048x1024, .f32⟩
  | .local _ .smem, ⟨0, _⟩ => ⟨S1, .i32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v2 : Ref sig .tc := ⟨.hbm, 4, rfl⟩
abbrev main_v3 : Ref sig .tc := ⟨.hbm, 5, rfl⟩
abbrev main_v1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 2 → Nat :=
  let v1 : Index := Scalar.indexCast v0
  let c0_0 : Index := 0#32
  ![v1.toNat, 0]

def k0_chk1 (v0 : BitVec 32) : Prop :=
  (∀ a, (k0_off1 v0) a + S1x1024.size a ≤ S8x1024.size a)
theorem k0_off1_inb : ∀ (v0 : BitVec 32) (k0_hw1 : k0_chk1 v0), ∀ a, (k0_off1 v0) a + S1x1024.size a ≤ S8x1024.size a := fun v0 k0_hw1 => k0_hw1

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S4x8192x1024 : Shape := ⟨3, ![4, 8192, 1024]⟩
abbrev S_ : Shape := ⟨0, ![]⟩
abbrev S8x1024 : Shape := ⟨2, ![8, 1024]⟩
abbrev S1 : Shape := ⟨1, ![1]⟩
abbrev S1024 : Shape := ⟨1, ![1024]⟩
abbrev S1x1x1024 : Shape := ⟨3, ![1, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S_, .i32⟩
  | .hbm, ⟨2, _⟩ => ⟨S8x1024, .f32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S1, .i1⟩
  | .hbm, ⟨13, _⟩ => ⟨S1, .i1⟩
  | .hbm, ⟨14, _⟩ => ⟨S1, .i1⟩
  | .hbm, ⟨15, _⟩ => ⟨S_, .i1⟩
  | .hbm, ⟨16, _⟩ => ⟨S_, .i1⟩
  | .hbm, ⟨17, _⟩ => ⟨S1024, .f32⟩
  | .hbm, ⟨18, _⟩ => ⟨S1024, .i1⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_c_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_c_1 : Ref sig .tc := ⟨.hbm, 9, rfl⟩
abbrev main_call0_c_2 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_c_3 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst : Ref sig .tc := ⟨.hbm, 19, rfl⟩
abbrev main_call0_v11 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩

abbrev nD : Nat := 1
abbrev τ : Topo := Topo.v7x

variable {F : FTy → Type} [FloatOps F]
-- ==== Proof.RowSum.lean ====
/- What both programs compute, as mathematics: one row of a table of eight rows of 1024, named by a 32-bit word, added to
   every row of an array of 4 by 8192 rows. The kernel works on the same array laid out as 32768 rows, so the sum is stated
   at both layouts and the two are shown equal through the row-major reshape between them. Nothing here speaks of a
   program; every statement is over any interpretation `F` of the float types, and the addition is never opened. -/
module

public import Idealize.ShloMosaic.Lib.Pipeline.Value
public import Idealize.ShloMosaic.Init

@[expose] public section

noncomputable section

namespace Cert.RowSum

open Idealize.ShloMosaic

/-- The array of 4 by 8192 rows, its 32768-row layout, the table, and the shape of the one word. -/
abbrev Batch : Shape := ⟨3, ![4, 8192, 1024]⟩
abbrev Rows : Shape := ⟨2, ![32768, 1024]⟩
abbrev Table : Shape := ⟨2, ![8, 1024]⟩
abbrev Word : Shape := ⟨0, ![]⟩

/-- The one index of an array with no axes. -/
abbrev here : Word.Idx := fun a => a.elim0

/-- Column `d` of the table's row `w`. The word is reduced modulo the eight rows so that the index exists for every word;
    for a word below eight, the only ones the precondition admits, the reduction does nothing. -/
def entry (w : BitVec 32) (d : Fin 1024) : Table.Idx := fun a => match a with
  | ⟨0, _⟩ => ⟨w.toNat % 8, Nat.mod_lt _ (by decide)⟩
  | ⟨1, _⟩ => d

/-- An index of the table whose row is the word and whose column is `d` is `entry w d`. -/
theorem eq_entry (w : BitVec 32) (d : Fin 1024) (hw : w.toNat < 8) (i : Table.Idx) (h0 : (i 0 : Nat) = w.toNat)
    (h1 : (i 1 : Nat) = d) : i = entry w d := by
  funext a
  match a with
  | ⟨0, _⟩ => exact Fin.ext (h0.trans (Nat.mod_eq_of_lt hw).symm)
  | ⟨1, _⟩ => exact Fin.ext h1

variable {F : FTy → Type} [FloatOps F]

/-- The table's row `w` added to every row of `x`. -/
def batchSum (x : FVec F Batch .f32) (w : BitVec 32) (T : FVec F Table .f32) : FVec F Batch .f32 :=
  fun i => FloatOps.addf (x i) (T (entry w (i 2)))

/-- The same over the 32768-row layout. -/
def rowsSum (y : FVec F Rows .f32) (w : BitVec 32) (T : FVec F Table .f32) : FVec F Rows .f32 :=
  fun i => FloatOps.addf (y i) (T (entry w (i 1)))

/-- Row `8192 b + s` of the long layout is row `(b, s)` of the batch. -/
private def long (i : Batch.Idx) : Rows.Idx := fun a => match a with
  | ⟨0, _⟩ => ⟨(i 0 : Nat) * 8192 + (i 1 : Nat), by
      have h0 : (i 0 : Nat) < 4 := (i 0).isLt
      have h1 : (i 1 : Nat) < 8192 := (i 1).isLt
      show _ < 32768
      omega⟩
  | ⟨1, _⟩ => i 2

/-- The two indices have one row-major position. -/
private theorem position (i : Batch.Idx) : (Rows.rowMajor (long i)).val = (Batch.rowMajor i).val := by
  rw [Shape.rowMajor_val_two, Shape.rowMajor_val_three]
  show ((i 0 : Nat) * 8192 + (i 1 : Nat)) * 1024 + (i 2 : Nat) = ((i 0 : Nat) * 8192 + (i 1 : Nat)) * 1024 + (i 2 : Nat)
  rfl

/-- LAYING OUT, ADDING, AND LAYING BACK is adding: the column of an element is the same in both layouts, and its row
    does not matter to the sum. -/
theorem batch_of_rows (x : FVec F Batch .f32) (w : BitVec 32) (T : FVec F Table .f32) (h : Batch.ShapeCasts Rows)
    (h' : Rows.ShapeCasts Batch) : shapeCast Batch (rowsSum (shapeCast Rows x h) w T) h' = batchSum x w T := by
  funext i
  rw [shapeCast_apply _ h' i (long i) (position i)]
  unfold rowsSum batchSum
  rw [shapeCast_apply x h (long i) i (position i).symm]
  rfl

end Cert.RowSum

end
-- ==== Proof.Word.lean ====
/- The precondition in arithmetic. The printed predicate says of the one index word, read as a signed number, that it is at
   least 0 and less than 8. Here that is turned into the two facts that the proofs use: the word as an unsigned number is
   below eight, and (for the reference, which compares again) the signed comparisons have the outcomes one expects. -/
module

public import proofs.«01_k».proof.Proof.Gen.Pre_in_range
public import proofs.«01_k».proof.Proof.RowSum

@[expose] public section

noncomputable section

namespace Cert.RowSum

open Idealize.ShloMosaic

variable {F : FTy → Type} [FloatOps F]

/-- A word the predicate admits names a row: it is below eight. -/
theorem word_lt (x : FVec F Batch .f32) (w : IVec Word 32) (T : FVec F Table .f32)
    (h : Cert.Pre_in_range.fn x w T = fun _ => 1#1) : (w here).toNat < 8 := by
  have both (p q : Bool) : IntOp.andi (BitVec.ofBool p) (BitVec.ofBool q) = 1#1 ↔ p = true ∧ q = true := by
    cases p <;> cases q <;> decide
  have e := congrFun h here
  simp only [Cert.Pre_in_range.fn, andi, cmpi, constantI, IntOp.cmpi, both] at e
  obtain ⟨low, high⟩ := e
  simp only [BitVec.sle, BitVec.slt, decide_eq_true_eq, BitVec.toInt, BitVec.toNat_ofNat] at low high
  omega

/-- A word below eight is not negative. -/
theorem not_negative {v : BitVec 32} (hv : v.toNat < 8) : IntOp.cmpi .slt v 0#32 = 0#1 := by
  have e : BitVec.slt v 0#32 = false := by
    simp only [BitVec.slt, decide_eq_false_iff_not, BitVec.toInt, BitVec.toNat_ofNat]
    omega
  show BitVec.ofBool (BitVec.slt v 0#32) = _
  rw [e]; rfl

/-- It is at least zero, -/
theorem at_least_zero {v : BitVec 32} (hv : v.toNat < 8) : IntOp.cmpi .sge v 0#32 = 1#1 := by
  have e : BitVec.sle 0#32 v = true := by
    simp only [BitVec.sle, decide_eq_true_eq, BitVec.toInt, BitVec.toNat_ofNat]
    omega
  show BitVec.ofBool (BitVec.sle 0#32 v) = _
  rw [e]; rfl

/-- at most seven, -/
theorem at_most_seven {v : BitVec 32} (hv : v.toNat < 8) : IntOp.cmpi .sle v 7#32 = 1#1 := by
  have e : BitVec.sle v 7#32 = true := by
    simp only [BitVec.sle, decide_eq_true_eq, BitVec.toInt, BitVec.toNat_ofNat]
    omega
  show BitVec.ofBool (BitVec.sle v 7#32) = _
  rw [e]; rfl

/-- and its signed reading is its unsigned one. -/
theorem signed_eq {v : BitVec 32} (hv : v.toNat < 8) : v.toInt.toNat = v.toNat := by
  simp only [BitVec.toInt]
  omega

end Cert.RowSum

end
-- ==== Proof.Block.lean ====
/- What the kernel's body leaves at one grid point. At a point it reads the index word from the prefetched table, loads the
   row of the table of embeddings that the word names and the point's 2048 rows of the batch, and stores their sum over the
   whole output block. Here: the prefetched word is the argument's word; the side condition that the body takes of it (the
   row is inside the table) follows from the precondition; and the stored block, element by element. -/
module

public import proofs.«01_k».proof.Proof.Gen.KernelIdeal.Frame
public import proofs.«01_k».proof.Proof.Word
public import Idealize.ShloMosaic.Lib.Pipeline.Value
public import Idealize.ShloMosaic.Lib.Pipeline.ValueKit.Tiles

@[expose] public section

noncomputable section

namespace Cert.KernelIdeal.RowAdd

open Cert.KernelIdeal Cert.KernelIdeal.Gen Cert.RowSum
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ)

/-- The three arguments on device `c`, as arrays. -/
abbrev argX (c : Dev nD) : FVec F Batch .f32 := m ((c.tc : Thread nD τ).loc main_arg0)
abbrev argW (c : Dev nD) : IVec Word 32 := m ((c.tc : Thread nD τ).loc main_arg1)
abbrev argT (c : Dev nD) : FVec F Table .f32 := m ((c.tc : Thread nD τ).loc main_arg2)

/-- The batch as the pipeline finds it: the argument in its 32768-row layout. -/
theorem entry_rows (c : Dev nD) : V m c main_v0 = shapeCast S32768x1024 (argX m c) shapeCasts_S4x8192x1024_S32768x1024 := by
  show StableHlo.after hostOps0 (fun b => m (c, b)) (Proc.devRef .tc main_v0) = _
  after_results
  rfl

/-- The prefetched table holds the argument's word. -/
theorem entry_word (c : Dev nD) (i : S1.Idx) : (V m c main_v1 : IVec S1 32) i = argW m c here := by
  have e : V m c main_v1 = shapeCast S1 (argW m c) shapeCasts_S_S1 := by
    show StableHlo.after hostOps0 (fun b => m (c, b)) (Proc.devRef .tc main_v1) = _
    after_results
    rfl
  rw [e]
  exact congrArg (argW m c) (funext fun a => a.elim0)

/-- The word that the body reads at every point. -/
abbrev wordRead (xt : TbBuf0 (F := F) (0 : Dev nD) tbM0_0) : BitVec 32 :=
  tbM0_0.view.readAt (Elt F) (Rect.unit (s := S1) ![0] S1.size inb_S1_S1_0).toLoadRect xt
    (Shape.Idx.first (numel1_S1.symm ▸ Nat.one_pos))

/-- It is the argument's word. -/
theorem wordRead_eq : wordRead (F := F) (tbl m 0) = argW m 0 here := entry_word m 0 _

/-- THE SIDE CONDITION: a word below eight names a row of the table. -/
theorem row_inside {v : BitVec 32} (hv : v.toNat < 8) : k0_chk1 v := by
  intro a
  match a with
  | ⟨0, _⟩ => show v.toNat + 1 ≤ 8; omega
  | ⟨1, _⟩ => show 0 + 1024 ≤ 1024; omega

/-- So the body's assumptions hold at every point. -/
theorem hyps (hw : (argW m 0 here).toNat < 8) (hO : Ok m) : Hyps m hO :=
  Hyps.of fun _ _ => row_inside ((wordRead_eq m).symm ▸ hw : (wordRead (F := F) (tbl m 0)).toNat < 8)

private theorem origin : (![0, 0] : Fin 2 → Nat) = fun _ => 0 := funext fun a => by fin_cases a <;> rfl

/-- WHAT IS STORED, given the row loaded at the word and the batch's block: element `(r, d)` is the batch block's element
    plus the table's column `d` in the row the word names. -/
theorem stored_apply (x0 : Vec F S8x1024 .f32) (x1 : Vec F S2048x1024 .f32) (v : BitVec 32) (hchk : k0_chk1 v)
    (hv : v.toNat < 8) (y : S2048x1024.Idx) :
    k0_pay1 (View.ld x0 (Rect.unit (s := S8x1024) (k0_off1 v) S1x1024.size (k0_off1_inb v hchk))) x1 y
      = FloatOps.addf (x1 y) (x0 (entry v (y 1))) := by
  unfold k0_pay1
  rw [shapeCast_self]
  show FloatOps.addf (x1 y) (broadcastTo S2048x1024 _ broadcasts_S1x1024_S2048x1024 y) = _
  congr 1
  have col : (y 1 : Nat) < 1024 := (y 1).isLt
  -- the one row's column `d` is what the broadcast reads,
  rw [broadcastTo_apply _ broadcasts_S1x1024_S2048x1024 y
    (fun a => match a with | ⟨0, _⟩ => ⟨0, Nat.one_pos⟩ | ⟨1, _⟩ => ⟨(y 1 : Nat), col⟩)
    (fun a => match a with
      | ⟨0, _⟩ => by show 0 = if (1 : Nat) = 1 then 0 else _; rw [if_pos rfl]
      | ⟨1, _⟩ => by show (y 1 : Nat) = if (1024 : Nat) = 1 then 0 else (y 1 : Nat); rw [if_neg (by decide)])]
  -- and the load placed it in the table's row `v`
  refine congrArg x0 (eq_entry v (y 1) hv _ ?_ ?_)
  · rw [Rect.idx_unit_val]; show v.toNat + 0 = v.toNat; omega
  · rw [Rect.idx_unit_val]; show 0 + (y 1 : Nat) = (y 1 : Nat); omega

/-- THE BLOCK THE POINT LEAVES: its one store goes through the whole block, so the block is what was stored. -/
theorem block_apply (c : Dev nD) (i : grid0.Coords) (arg2 : Memref sig .tc .vmem S8x1024 .f32) (harg2 : arg2.IsWhole)
    (arg3 : Memref sig .tc .vmem S2048x1024 .f32) (harg3 : arg3.IsWhole) (arg4 : Memref sig .tc .vmem S2048x1024 .f32)
    (harg4 : arg4.IsWhole) (x0 : Vec F S8x1024 .f32) (x1 : Vec F S2048x1024 .f32) (xt : TbBuf0 (F := F) c tbM0_0)
    (hchk : k0_chk1 (wordRead (F := F) xt)) (hw : (wordRead (F := F) xt).toNat < 8) (y : S2048x1024.Idx) :
    out0_A_2 c i arg2 harg2 arg3 harg3 arg4 harg4 x0 x1 xt hchk y
      = FloatOps.addf (x1 y) (x0 (entry (wordRead (F := F) xt) (y 1))) := by
  unfold out0_A_2
  rw [View.read_writes_eq_canon _ _ _ (cover0_A_2 c i arg2 harg2 arg3 harg3 arg4 harg4 x0 x1 xt hchk)]
  unfold kernelRun0_A
  dsimp only
  sl_unfold_words
  rw [View.canon_unit_zero origin]
  simp only [View.readAt_eq_ld, harg2.read_unread, harg3.read_unread]
  show k0_pay1 (View.ld x0 (Rect.unit (s := S8x1024) (k0_off1 (wordRead (F := F) xt)) S1x1024.size (k0_off1_inb _ hchk)))
    (View.ld x1 (Rect.unit (s := S2048x1024) ![0, 0] S2048x1024.size inb_S2048x1024_S2048x1024_0_0)) y = _
  rw [View.ld_unit_zero origin]
  exact stored_apply x0 x1 _ hchk hw y

end Cert.KernelIdeal.RowAdd

end
-- ==== Proof.Array.lean ====
/- What the arrays hold when the kernel has run. The sixteen blocks of 2048 rows tile the 32768 rows of the result, each is
   written back once, and each is the sum's block: so the result array is the sum over the long layout, and the host's
   reshape after the kernel lays it back as the batch. Then the whole run, read at the result and the arguments. -/
module

public import proofs.«01_k».proof.Proof.Block
public import Idealize.ShloMosaic.Lib.Pipeline.ValueKit

@[expose] public section

noncomputable section

namespace Cert.KernelIdeal.RowAdd

open Cert.KernelIdeal Cert.KernelIdeal.Gen Cert.RowSum
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

/-- The block numbers of the three windows at point `t`: the table's one block, and block `t` of the batch and of the result. -/
theorem block0 : ∀ t : Fin grid0.N, cc0_transform_0 (grid0.coords t) 0 = 0 ∧ cc0_transform_0 (grid0.coords t) 1 = 0 := by
  decide +kernel
theorem block1 : ∀ t : Fin grid0.N, cc0_transform_1 (grid0.coords t) 0 = t.val ∧ cc0_transform_1 (grid0.coords t) 1 = 0 := by
  decide +kernel
theorem block2 : ∀ t : Fin grid0.N, cc0_transform_2 (grid0.coords t) 0 = t.val ∧ cc0_transform_2 (grid0.coords t) 1 = 0 := by
  decide +kernel

/-- The sum over the long layout: what the result array is shown to hold. -/
abbrev sumRows (c : Dev nD) : FVec F Rows .f32 := rowsSum (V m c main_v0) (argW m c here) (argT m c)

/-- Element `y` of a window's block at point `t` sits in the array at the block's number times its extent, plus `y`. For
    the table, whose one block is the whole array, that is `y` itself; -/
theorem table_place (hO : Ok m) (t : Fin (cfgM m hO).N) (y : S8x1024.Idx) (a : Fin 2) :
    ((((cfgM m hO).win 0).blk t).view.emb y a : Nat) = y a := by
  refine (Pipeline.Window.rect_emb_val ((cfgM m hO).win 0) t y a rfl).trans ?_
  have e := block0 t
  match a with
  | ⟨0, _⟩ => show cc0_transform_0 (grid0.coords t) 0 * 8 + (y 0 : Nat) = (y 0 : Nat); rw [e.1]; omega
  | ⟨1, _⟩ => show cc0_transform_0 (grid0.coords t) 1 * 1024 + (y 1 : Nat) = (y 1 : Nat); rw [e.2]; omega

/-- for the batch it is 2048 rows further on at each point; -/
theorem batch_place (hO : Ok m) (t : Fin (cfgM m hO).N) (y : S2048x1024.Idx) (a : Fin 2) :
    ((((cfgM m hO).win 1).blk t).view.emb y a : Nat) = ![t.val * 2048, 0] a + y a := by
  refine (Pipeline.Window.rect_emb_val ((cfgM m hO).win 1) t y a rfl).trans ?_
  have e := block1 t
  match a with
  | ⟨0, _⟩ => show cc0_transform_1 (grid0.coords t) 0 * 2048 + (y 0 : Nat) = t.val * 2048 + (y 0 : Nat); rw [e.1]
  | ⟨1, _⟩ => show cc0_transform_1 (grid0.coords t) 1 * 1024 + (y 1 : Nat) = 0 + (y 1 : Nat); rw [e.2]

/-- and for the result the same. -/
theorem result_place (hO : Ok m) (t : Fin (cfgM m hO).N) (y : S2048x1024.Idx) (a : Fin 2) :
    ((((cfgM m hO).win 2).blk t).view.emb y a : Nat) = ![t.val * 2048, 0] a + y a := by
  refine (Pipeline.Window.rect_emb_val ((cfgM m hO).win 2) t y a rfl).trans ?_
  have e := block2 t
  match a with
  | ⟨0, _⟩ => show cc0_transform_2 (grid0.coords t) 0 * 2048 + (y 0 : Nat) = t.val * 2048 + (y 0 : Nat); rw [e.1]
  | ⟨1, _⟩ => show cc0_transform_2 (grid0.coords t) 1 * 1024 + (y 1 : Nat) = 0 + (y 1 : Nat); rw [e.2]

/-- The sixteen blocks cover the array: row `r` is row `r % 2048` of block `r / 2048`. -/
theorem covered (hO : Ok m) (i : S32768x1024.Idx) :
    ∃ t : Fin (cfgM m hO).N, ((cfgM m hO).win 2).flush t = true ∧ i ∈ (((cfgM m hO).win 2).blk t).view.set := by
  have row : (i 0 : Nat) < 32768 := (i 0).isLt
  have points : (cfgM m hO).N = 16 := N_0
  let t : Fin (cfgM m hO).N := ⟨(i 0 : Nat) / 2048, by omega⟩
  let y : S2048x1024.Idx := fun a => match a with
    | ⟨0, _⟩ => ⟨(i 0 : Nat) % 2048, Nat.mod_lt _ (by decide)⟩
    | ⟨1, _⟩ => i 1
  refine ⟨t, flush0_2 (adm m hO) t, ?_⟩
  have place : (((cfgM m hO).win 2).blk t).view.emb y = i := funext fun a => Fin.ext <| (result_place m hO t y a).trans <| by
    match a with
    | ⟨0, _⟩ => show (i 0 : Nat) / 2048 * 2048 + (i 0 : Nat) % 2048 = (i 0 : Nat); omega
    | ⟨1, _⟩ => show 0 + (i 1 : Nat) = (i 1 : Nat); omega
  exact place ▸ View.emb_mem_set _ _

/-- The table's block is the table, -/
theorem table_block (hO : Ok m) (c : Dev nD) (t : Fin (cfgM m hO).N) (y : S8x1024.Idx) :
    (iblk m hO c 0 t : Vec F S8x1024 .f32) y = argT m c y := by
  unfold iblk
  exact (congrArg (V m c main_arg2) (funext fun a => Fin.ext (table_place m hO t y a))).trans (congrFun (V_main_arg2 m c) y)

/-- and the batch's block is the batch at the place where the result's block has the same element. -/
theorem batch_block (hO : Ok m) (c : Dev nD) (t : Fin (cfgM m hO).N) (y : S2048x1024.Idx) :
    (iblk m hO c 1 t : Vec F S2048x1024 .f32) y = (V m c main_v0 : FVec F Rows .f32) ((((cfgM m hO).win 2).blk t).view.emb y) := by
  unfold iblk
  exact congrArg (V m c main_v0) (funext fun a => Fin.ext ((batch_place m hO t y a).trans (result_place m hO t y a).symm))

/-- EVERY POINT WRITES BACK ITS BLOCK OF THE SUM. -/
theorem written (hw : (argW m 0 here).toNat < 8) (hO : Ok m) (hH : Hyps m hO) (c : Dev nD) (t : Fin (cfgM m hO).N)
    (y : S2048x1024.Idx) :
    (outsAt0 m hO hH c t : Vec F S2048x1024 .f32) y = sumRows m c ((((cfgM m hO).win 2).blk t).view.emb y) := by
  obtain rfl : c = 0 := Subsingleton.elim _ _
  have word : wordRead (F := F) (tbl m 0) = argW m 0 here := wordRead_eq m
  unfold outsAt0
  refine (block_apply 0 _ _ _ _ _ _ _ _ _ (tbl m 0) _ (word.symm ▸ hw) y).trans ?_
  -- the two sums have the same addends: the batch's element, and the table's in the same row and column
  refine congrArg₂ FloatOps.addf (batch_block m hO 0 t y) ((table_block m hO 0 t _).trans ?_)
  rw [word]
  refine congrArg (fun d => argT m 0 (entry (argW m 0 here) d)) (Fin.ext ?_)
  exact ((result_place m hO t y 1).trans (Nat.zero_add _)).symm

/-- THE RESULT ARRAY when the kernel has run: the sum over the long layout. -/
theorem result_rows (hw : (argW m 0 here).toNat < 8) (hO : Ok m) (hH : Hyps m hO) (c : Dev nD) :
    (dats m hO hH 0 c).arrAt 2 (cfgM m hO).N = sumRows m c :=
  (dats m hO hH 0 c).arrAt_eq_of_emb 2 (sumRows m c)
    (fun t _ y => (congrFun (after0_2 m hO hH c t) y).trans (written m hw hO hH c t y)) (covered m hO)

private theorem arrays_distinct : Function.Injective (Pipeline.arrRef spec0) := by decide

/-- THE RESULT after the host's reshape: the sum over the batch. -/
theorem result_batch (hw : (argW m 0 here).toNat < 8) (hO : Ok m) (hH : Hyps m hO) (c : Dev nD) :
    Pipeline.afterTail pcfgs (fun _ => adm m hO) (dats m hO hH) 0 (V0 m) [hostOps1] c main_v3
      = batchSum (argX m c) (argW m c here) (argT m c) := by
  have laid : Pipeline.afterTail pcfgs (fun _ => adm m hO) (dats m hO hH) 0 (V0 m) [hostOps1] c main_v3
      = shapeCast S4x8192x1024 ((dats m hO hH 0 c).arrAt 2 (cfgM m hO).N : FVec F Rows .f32) shapeCasts_S32768x1024_S4x8192x1024 := by
    unfold Pipeline.afterTail
    show StableHlo.after hostOps1 _ (Proc.devRef .tc main_v3) = _
    after_results
    exact congrArg (fun z : FVec F Rows .f32 => shapeCast S4x8192x1024 z shapeCasts_S32768x1024_S4x8192x1024)
      (Pipeline.withArrays_arr spec0 arrays_distinct c (V0 m c) (fun w => (dats m hO hH 0 c).arrAt w (cfgM m hO).N) 2)
  rw [laid, result_rows m hw hO hH c]
  unfold sumRows
  rw [entry_rows]
  exact batch_of_rows _ _ _ _ _

/-- THE KERNEL'S RUN under the precondition: the result is the sum, the arguments are unchanged. -/
theorem run (hw : (argW m 0 here).toNat < 8) :
    θ_run defs (onTc (τ := τ) (main (F := F))) ⟨m, fun _ => 0, ρ⟩ fun r => ∀ c : Dev nD,
      r.2.mem ((c.tc : Thread nD τ).loc main_v3) = batchSum (argX m c) (argW m c here) (argT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  have hO : Ok m := trivial
  have hH : Hyps m hO := hyps m hw hO
  (θ_run defs _ _).mono (fun _ h c => ⟨((h.1 c).2 main_v3 (by decide : main_v3 ∈ Pipeline.restRefs sig spec0)).trans
      (result_batch m hw hO hH c), h.2 c⟩)
    (θ_run_and (run_main m ρ hO hH) (unchanged m ρ hO hH))

end Cert.KernelIdeal.RowAdd

end
-- ==== Proof.Taken.lean ====
/- What the reference computes. It takes row `w` of the table the way jax does: it wraps a negative word round, checks that
   the result is a row, gathers (clamping), and puts a NaN row in place of what it gathered when the check failed. For a
   word below eight the wrapping does nothing, the check succeeds and the clamp does nothing, so that what is added to
   the batch is the table's row `w`: the result is `batchSum`. -/
module

public import proofs.«01_k».proof.Proof.Gen.ReferenceIdeal.Read
public import proofs.«01_k».proof.Proof.Word

@[expose] public section

noncomputable section

namespace Cert.ReferenceIdeal.Taken

open Cert.ReferenceIdeal Cert.ReferenceIdeal.Gen Cert.ReferenceIdeal.Read Cert.RowSum
open Idealize.ShloMosaic Idealize.ShloMosaic.TcCoe Idealize.SL.Sem

variable {F : FTy → Type} [FloatOps F]

/-- A conjunction, folded over any list, of bits that are all set is set. -/
private theorem all_set {β : Type} (f : β → BitVec 1) (hf : ∀ b, f b = 1#1) (l : List β) :
    l.foldl (fun r b => IntOp.andi r (f b)) 1#1 = 1#1 := by
  induction l with
  | nil => rfl
  | cons b l ih =>
    rw [List.foldl_cons, hf b]
    exact ih

/-- The word after the wrapping of negative ones: itself. -/
theorem wrapped (w : IVec Word 32) (hw : (w here).toNat < 8) (i : S_.Idx) : val_main_call0_v2 (F := F) w i = w here := by
  obtain rfl : i = here := funext fun a => a.elim0
  rw [val_main_call0_v2_apply, val_main_call0_v0_apply, val_main_call0_c_apply, not_negative hw]
  rfl

/-- The one start index is the word. -/
theorem start_word (w : IVec Word 32) (hw : (w here).toNat < 8) (i : S1.Idx) : val_main_call0_v3 (F := F) w i = w here := by
  rw [val_main_call0_v3_apply, wrapped w hw]

/-- The check succeeds. -/
theorem checked (w : IVec Word 32) (hw : (w here).toNat < 8) (i : S_.Idx) : val_main_call0_v8 (F := F) w i = 1#1 := by
  have each (j : S1.Idx) : val_main_call0_v7 (F := F) w j = 1#1 := by
    rw [val_main_call0_v7_apply, val_main_call0_v5_apply, val_main_call0_v6_apply, val_main_call0_v4_apply,
      val_main_call0_c_2_apply, val_main_call0_c_1_apply, start_word w hw, at_least_zero hw, at_most_seven hw]
    rfl
  unfold val_main_call0_v8 Host.reduce
  exact all_set _ (fun n => each _) _

/-- What is gathered is the table's row `w`. -/
theorem gathered (w : IVec Word 32) (hw : (w here).toNat < 8) (T : FVec F Table .f32) (j : S1024.Idx) :
    val_main_call0_v9 (F := F) w T j = T (entry (w here) (j 0)) := by
  unfold val_main_call0_v9 Host.gather
  congr 1
  apply eq_entry _ _ hw
  · show GatherDims.start _ j _ 0 + GatherDims.batchCoord _ j 0 + GatherDims.offCoord _ j 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S8x1024_S1_S1024_0_0_n_n_0_0_11024.startIndexMap from List.mem_singleton.mpr rfl),
      start_word w hw, signed_eq hw]
    show min (w here).toNat 7 + 0 + 0 = _
    omega
  · show GatherDims.start _ j _ 1 + GatherDims.batchCoord _ j 1 + GatherDims.offCoord _ j 1 = _
    rw [GatherDims.batchCoord_eq_zero _ _ _ List.not_mem_nil]
    unfold GatherDims.start
    rw [dif_neg (by decide)]
    show 0 + 0 + (j 0 : Nat) = _
    omega

/-- The reference's result, as a function of its three arguments. -/
theorem result_eq (x : FVec F Batch .f32) (w : IVec Word 32) (hw : (w here).toNat < 8) (T : FVec F Table .f32) :
    val_main_v3 (F := F) x w T = batchSum x (w here) T := by
  funext i
  rw [val_main_v3_apply, val_main_v2_apply, val_main_v1_apply, val_main_v0_apply, val_main_call0_v10_apply,
    checked w hw, gathered w hw]
  rfl

/-- THE REFERENCE'S RUN under the precondition: the result is the sum, the arguments are unchanged. -/
theorem run (m : (ℓ : Loc nD τ sig) → Buf (Elt F) ℓ) (ρ : Dev nD → PrngReg)
    (hw : ∀ c : Dev nD, ((m ((c.tc : Thread nD τ).loc main_arg1) : IVec Word 32) here).toNat < 8) :
    θ_run defs (onTc (τ := τ) (main (F := F))) ⟨m, fun _ => 0, ρ⟩ fun r => ∀ c : Dev nD,
      r.2.mem ((c.tc : Thread nD τ).loc main_v3) = batchSum (m ((c.tc : Thread nD τ).loc main_arg0))
          ((m ((c.tc : Thread nD τ).loc main_arg1) : IVec Word 32) here) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1.trans (val_main_v3_eq _ _ _)).trans (result_eq _ _ (hw c) _), (h c).2⟩)
    (Cert.ReferenceIdeal.Value.run m ρ)

end Cert.ReferenceIdeal.Taken

end
-- ==== Proof.lean ====
/- The certificate: a kernel that adds one row of a table, named by a prefetched index word, to every row of a batch, against
   the host program that takes the row and adds it. Its parts: `Proof/RowSum.lean` (the sum as mathematics, at the two layouts
   of the batch), `Proof/Word.lean` (the precondition as arithmetic on the word), `Proof/Block.lean` (what one grid point
   stores), `Proof/Array.lean` (what the arrays hold after the run), `Proof/Taken.lean` (what the reference computes). Each
   of the two runs is proved once, over any interpretation of the float types, for the idealized program; the compiled
   program has the same text in another namespace, so that its run is the same theorem read at the machine's words. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.Reference.Read
public import proofs.«01_k».proof.Proof.Gen.ReferenceIdeal
public import proofs.«01_k».proof.Proof.Gen.ReferenceIdeal.Read
public import proofs.«01_k».proof.Proof.Gen.Pre_in_range
public import proofs.«01_k».proof.Proof.Array
public import proofs.«01_k».proof.Proof.Taken
public import Idealize.ShloMosaic.Adequacy
public import Idealize.ShloMosaic.Init

@[expose] public section

noncomputable section

namespace Cert.Proof

open Idealize.ShloMosaic Idealize.ShloMosaic.TcCoe Idealize.SL.Sem Cert.RowSum

/-! ## The precondition, program by program: the index word is below eight -/

theorem word_kernel {m} (h : Cert.Pre_Kernel m) (c : Dev Cert.Kernel.nD) :
    ((m ((c.tc : Thread Cert.Kernel.nD Cert.Kernel.τ).loc Cert.Kernel.main_arg1) : IVec Word 32) here).toNat < 8 :=
  word_lt _ _ _ (h c)

theorem word_kernelIdeal {m} (h : Cert.Pre_KernelIdeal m) (c : Dev Cert.KernelIdeal.nD) :
    ((m ((c.tc : Thread Cert.KernelIdeal.nD Cert.KernelIdeal.τ).loc Cert.KernelIdeal.main_arg1) : IVec Word 32) here).toNat < 8 :=
  word_lt _ _ _ (h c)

/-! ## The two kernel programs have one text

What is shown of the idealized program over any number model is shown of the compiled one, once the
two body tables are seen to agree label by label. -/

theorem bodies_same : @Cert.Kernel.defs₀ Bits _ _ = @Cert.KernelIdeal.defs₀ Bits _ _ := by
  apply congrArg Defs.onTc
  funext label given
  match label, given with
  | 0, (_, _) => rfl

theorem tables_same : @Cert.Kernel.defs Bits _ _ = @Cert.KernelIdeal.defs Bits _ _ :=
  congrArg (Pipeline.defs Cert.KernelIdeal.pcfgs) bodies_same

/-- A run of the idealized program over the machine's words is a run of the compiled one. -/
theorem compiled {σ} {Q}
    (run : θ_run (Cert.KernelIdeal.defs (F := Bits)) (onTc Cert.KernelIdeal.main) σ Q) :
    θ_run (Cert.Kernel.defs (F := Bits)) (onTc Cert.Kernel.main) σ Q :=
  Eq.mpr (congrArg (fun D => θ_run D (onTc Cert.KernelIdeal.main) σ Q) tables_same) run

/-! ## The frames: the programs run, leave their arguments unchanged, and end with every counter at zero -/

theorem frame_kernelIdeal : Cert.quiescent_KernelIdeal := fun m ρ h =>
  Cert.KernelIdeal.Gen.frame m ρ trivial (Cert.KernelIdeal.RowAdd.hyps m (word_kernelIdeal h 0) trivial)

theorem frame_kernel : Cert.quiescent_Kernel := fun m ρ h =>
  compiled (Cert.KernelIdeal.Gen.frame (F := Bits) m ρ trivial (Cert.KernelIdeal.RowAdd.hyps m (word_kernel h 0) trivial))

/-- The host programs declare no semaphore, so there is no counter to be anything but zero. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

theorem frame_reference : Cert.quiescent_Reference := fun m ρ _ =>
  (θ_run Cert.Reference.defs _ _).mono (fun r h => ⟨fun c => (h c).2, Idealize.ShloMosaic.sem_eq_zero_of_no_sems (by decide) r.2⟩)
    (Cert.Reference.Value.run m ρ)

/-! ## The values -/

/-- THE ALGEBRAIC CLAIM: over the extended reals the two results are the one sum. -/
theorem algebraic : Cert.algebraic_KernelIdeal_ReferenceIdeal := fun m ρ m' ρ' h same =>
  ⟨fun c => batchSum (Cert.KernelIdeal.RowAdd.argX m c) (Cert.KernelIdeal.RowAdd.argW m c here) (Cert.KernelIdeal.RowAdd.argT m c),
    Cert.KernelIdeal.RowAdd.run m ρ (word_kernelIdeal h 0),
    (θ_run Cert.ReferenceIdeal.defs _ _).mono
      (fun _ r c => ⟨(r c).1.trans (by rw [(same c).1, (same c).2.1, (same c).2.2]), (r c).2⟩)
      (Cert.ReferenceIdeal.Taken.run m' ρ' fun c => by rw [(same c).2.1]; exact word_kernelIdeal h c)⟩

/-- What the compiled kernel's result is shown to hold, over the machine's words. -/
abbrev sumBits (m : (ℓ : Loc Cert.Kernel.nD Cert.Kernel.τ Cert.Kernel.sig) → Buf (Elt Bits) ℓ) (c : Dev Cert.Kernel.nD) :
    FVec Bits Batch .f32 :=
  batchSum (F := Bits) (m ((c.tc : Thread Cert.Kernel.nD Cert.Kernel.τ).loc Cert.Kernel.main_arg0))
    ((m ((c.tc : Thread Cert.Kernel.nD Cert.Kernel.τ).loc Cert.Kernel.main_arg1) : IVec Word 32) here)
    (m ((c.tc : Thread Cert.Kernel.nD Cert.Kernel.τ).loc Cert.Kernel.main_arg2))

/-- THE BIT-EXACT CLAIM: the two results are the one sum word for word, whatever the machine's addition is. -/
theorem bitexact : Cert.bitexact_Kernel_Reference := fun m ρ m' ρ' h same =>
  ⟨sumBits m,
    compiled (Cert.KernelIdeal.RowAdd.run (F := Bits) m ρ (word_kernel h 0)),
    (θ_run Cert.ReferenceIdeal.defs _ _).mono
      (fun _ r c => ⟨(r c).1.trans (congr (congrArg₂ (fun x (w : IVec Word 32) => batchSum (F := Bits) x (w here)) (same c).1 (same c).2.1)
        (same c).2.2), (r c).2⟩)
      (Cert.ReferenceIdeal.Taken.run (F := Bits) m' ρ' fun c =>
        (congrArg (fun w : IVec Word 32 => (w here).toNat) (same c).2.1).trans_lt (word_kernel h c))⟩

theorem claim : Cert.Claim :=
  ⟨Cert.Kernel.Gen.facts, Cert.KernelIdeal.Gen.facts, Cert.Reference.Gen.facts, Cert.ReferenceIdeal.Gen.facts,
    Cert.Pre_in_range.Gen.facts, frame_kernel, frame_kernelIdeal, frame_reference, fun m ρ _ => frame_reference m ρ trivial,
    frame_referenceIdeal, fun m ρ _ => frame_referenceIdeal m ρ trivial, trivial, algebraic, bitexact⟩

end Cert.Proof

end
